-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x2048 : Shape := ⟨2, ![2048, 2048]⟩
abbrev S4 : Shape := ⟨1, ![4]⟩
abbrev S512x2048 : Shape := ⟨2, ![512, 2048]⟩
abbrev S_ : Shape := ⟨0, ![]⟩
abbrev S2048x256 : Shape := ⟨2, ![2048, 256]⟩
abbrev S2048x512 : Shape := ⟨2, ![2048, 512]⟩
abbrev S2048x1024 : Shape := ⟨2, ![2048, 1024]⟩
abbrev S512x256 : Shape := ⟨2, ![512, 256]⟩
abbrev S512x512 : Shape := ⟨2, ![512, 512]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4, .f32⟩
  | .hbm, ⟨6, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x2048, .f32⟩
  | .local _ .vmem, ⟨5, _⟩ => ⟨S2048x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x2048 : Shape := ⟨2, ![4096, 2048]⟩
abbrev S2048x2048 : Shape := ⟨2, ![2048, 2048]⟩
abbrev S4 : Shape := ⟨1, ![4]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S4, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.Slices.lean ====
/-
  What one grid point of the idealized kernel leaves behind, element by element, over the extended reals.

  The first point fetches the weight in four column slices of widths 256, 256, 512 and 1024. It casts each slice into the
  carried scratch and multiplies the point's rows by it. Every later point multiplies its rows by the carried scratch.
  Either way an element of the point's output block is one full dot product, and the scratch is the weight.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Slices

open Cert.KernelIdeal Cert.KernelIdeal.Gen Idealize.ShloMosaic Idealize.ShloMosaic.TcCoe Idealize.SL.Sem

/-- Row `y 0` of the `[512, 2048]` block `x` times column `y 1` of the `[2048, 2048]` weight `w`, over the extended reals. -/
def dotBlock (x : Vec Ideal S512x2048 .f32) (w : S2048x2048.Idx → EReal) (y : S512x2048.Idx) : EReal :=
  ∑ k : Fin 2048, x (ix2 (y 0) k) * w (ix2 k (y 1))

/-- A column slice of the weight, `n` columns from column `off` on, as a transfer delivers it: its element at `j` is the
    weight's element in the same row and in column `off + j 1`. The four slices of the kernel are cases of this one fact. -/
theorem slice_read (c : Dev nD) {n off : ℕ} (inb : ∀ a, (![0, off] : Fin 2 → ℕ) a + (![2048, n] : Fin 2 → ℕ) a ≤ S2048x2048.size a)
    (w : HbBuf0 (F := Ideal) c hbM0_0) (j : (Rect.unit (s := S2048x2048) ![0, off] ![2048, n] inb).shape.Idx)
    (y : S2048x2048.Idx) (h0 : (y 0 : ℕ) = (j 0 : ℕ)) (h1 : (y 1 : ℕ) = off + (j 1 : ℕ)) :
    View.read (Elt Ideal) ((View.whole main_arg1).slice (Rect.unit (s := S2048x2048) ![0, off] ![2048, n] inb)) w j = w y := by
  rw [View.read_apply]
  show w _ = w y
  congr 1
  funext a
  apply Fin.ext
  match a with
  | ⟨0, _⟩ => show 0 + 1 * (j 0 : ℕ) = (y 0 : ℕ); omega
  | ⟨1, _⟩ => show off + 1 * (j 1 : ℕ) = (y 1 : ℕ); omega

section Points

variable (c : Dev nD) (i : grid0.Coords) (arg1 : Memref sig .tc .vmem S512x2048 .f32) (harg1 : arg1.IsWhole)
  (arg3 : Memref sig .tc .vmem S512x2048 .f32) (harg3 : arg3.IsWhole)
  (arg4 : Memref sig .tc .vmem S2048x2048 .f32) (harg4 : arg4.IsWhole)
  (arg5 : Memref sig .tc .vmem S2048x2048 .bf16) (harg5 : arg5.IsWhole)

/-- The first point leaves the weight itself in the carried scratch: its four cast slices tile the scratch, and a cast is
    the identity over the extended reals. -/
theorem scratch_first (hc0 : cond0_0 i) (hc1 : ¬cond0_1 i) (x : Vec Ideal S512x2048 .f32)
    (w : HbBuf0 (F := Ideal) c hbM0_0) (y : S2048x2048.Idx) :
    sout0_A_1 c i arg1 harg1 arg3 harg3 arg4 harg4 arg5 harg5 hc0 hc1 x w y = w y := by
  frame_open
  simp (disch := decide) only [↓ View.readCov_skip, ↓ View.readCov_cons_toLoadRect, ↓ View.readCov_fill]
  frame_out
  canon_tiles z h using View.cover_of_tiledBy _ ![2048, 256] (by sl_kernel_rfl) y
  all_goals
    pointwise [k0_pay2, k0_pay5, k0_pay7, k0_pay9, k0_pay11]
    exact slice_read c _ w _ y h0 (by omega)

/-- The first point's output block: four slice products, side by side, are the block's full dot products. -/
theorem out_first (hc0 : cond0_0 i) (hc1 : ¬cond0_1 i) (x : Vec Ideal S512x2048 .f32)
    (w : HbBuf0 (F := Ideal) c hbM0_0) (y : S512x2048.Idx) :
    out0_A_1 c i arg1 harg1 arg3 harg3 arg4 harg4 arg5 harg5 hc0 hc1 x w y = dotBlock x w y := by
  frame_open
  simp (disch := decide) only [↓ View.readCov_skip, ↓ View.readCov_cons_toLoadRect, ↓ View.readCov_fill]
  frame_out
  unfold dotBlock
  canon_tiles z h using View.cover_of_tiledBy _ ![512, 256] (by sl_kernel_rfl) y
  all_goals
    pointwise [k0_pay1, k0_pay2, k0_pay3, k0_pay5, k0_pay6, k0_pay7, k0_pay8, k0_pay9, k0_pay10, k0_pay11]
    refine Finset.sum_congr rfl fun k _ => ?_
    refine congrArg₂ (fun a b : EReal => a * b) ?_ ?_
    · exact congrArg (fun r => x (ix2 r k)) (Fin.ext h0.symm)
    · exact slice_read c _ w _ (ix2 k (y 1)) rfl (h1.trans (by simp))

/-- A later point's output block: its rows' dot products with the carried scratch. -/
theorem out_later (hc0 : ¬cond0_0 i) (hc1 : cond0_1 i) (x : Vec Ideal S512x2048 .f32)
    (s : Vec Ideal S2048x2048 .bf16) (w : HbBuf0 (F := Ideal) c hbM0_0) (y : S512x2048.Idx) :
    out0_B_1 c i arg1 harg1 arg3 harg3 arg4 harg4 arg5 harg5 hc0 hc1 x s w y = dotBlock x s y := by
  frame_out
  unfold dotBlock
  pointwise [k0_pay1, k0_pay4]

end Points

end Cert.KernelIdeal.Slices

end
-- ==== Proof.Product.lean ====
/-
  What the idealized kernel's result array holds when the run ends, and that the reference computes the same.

  The carried scratch is the weight after every grid point. So every point's output block holds the full dot products of
  its 512 rows with the weight. The eight blocks tile the array, which therefore holds the matrix product of the first
  two arguments: the reference's own operation at the same arguments.
-/
module

public import proofs.«01_k».proof.Proof.Slices
public import proofs.«01_k».proof.Proof.Gen.ReferenceIdeal.Run

@[expose] public section

set_option maxRecDepth 16384

noncomputable section

namespace Cert.KernelIdeal.Product

open Cert.KernelIdeal Cert.KernelIdeal.Gen Cert.KernelIdeal.Slices Idealize.ShloMosaic Idealize.ShloMosaic.TcCoe
  Idealize.SL.Sem

variable (m : (ℓ : Loc nD τ sig) → Buf (Elt Ideal) ℓ)

/-- The weight: the launch contents of the second argument. -/
abbrev weight (c : Dev nD) : HbBuf0 (F := Ideal) c hbM0_0 := V m c main_arg1

/-- A point after the first is not a multiple of eight, the condition under which a point fetches the weight. -/
theorem later_of_pos (t : Fin cfg0.N) (ht : 1 ≤ t.val) : ¬t.val % 8 = 0 := by
  have := lt_of_lt_of_eq t.isLt (show cfg0.N = 8 from N_0)
  omega

/-- After any grid point the carried scratch holds the weight: the first point puts it there, and no later point stores
    to the scratch. -/
theorem scratch_eq (c : Dev nD) : ∀ (n : ℕ) (h : n < cfg0.N) (y : S2048x2048.Idx), (outsAt0 m c n h).2 y = weight m c y
  | 0, h, y => by
    rw [outsAt0_A m c ⟨0, h⟩ rfl (by simp)]
    dsimp only
    rw [scratch_first]
  | n + 1, h, y => by
    rw [outsAt0_B m c ⟨n + 1, h⟩ (later_of_pos ⟨n + 1, h⟩ (by simp)) (by simp)]
    dsimp only
    unfold sout0_B_1
    exact scratch_eq c n _ y

/-- What any grid point leaves in its output block: the dot products of its input block's rows with the weight. -/
theorem block_eq (c : Dev nD) (t : Fin cfg0.N) (y : S512x2048.Idx) :
    (outsAt0 m c t.val t.isLt).1 y = dotBlock (iblk m c 0 t) (weight m c) y := by
  by_cases h1 : 1 ≤ t.val
  · rw [outsAt0_B m c t (later_of_pos t h1) h1]
    dsimp only
    rw [out_later]
    unfold dotBlock
    simp only [scratch_eq]
  · rw [outsAt0_A m c t (by omega) h1]
    dsimp only
    rw [out_first]

/-- The reference's product of the first two arguments, at an index: a row of the first times a column of the second. -/
theorem reference_eq (x : Vec Ideal S4096x2048 .f32) (w : Vec Ideal S2048x2048 .f32) (i : S4096x2048.Idx) :
    Host.dotGeneral (F := Ideal) (φ₁ := .f32) (φ₂ := .f32) Cert.ReferenceIdeal.dot_S4096x2048_S2048x2048_S4096x2048_1_0_0_1_n_n none x w i
      = ∑ k : Fin 2048, x (ix2 (i 0) k) * w (ix2 k (i 1)) := by
  pointwise

/-- At any grid point the input and the output window stand at the same block of rows, and at the first block of columns. -/
theorem point_rows : ∀ t : Fin grid0.N, win0_0.index t 0 = win0_1.index t 0 ∧ win0_0.index t 1 = 0 ∧ win0_1.index t 1 = 0 := by
  decide +kernel

/-- The result array after the run is the reference's product of the first two arguments. -/
theorem array_eq (c : Dev nD) :
    (dats m 0 c).arrAt 1 cfg0.N
      = Host.dotGeneral (F := Ideal) (φ₁ := .f32) (φ₂ := .f32) Cert.ReferenceIdeal.dot_S4096x2048_S2048x2048_S4096x2048_1_0_0_1_n_n none
          (m ((c : Thread nD τ).loc main_arg0)) (m ((c : Thread nD τ).loc main_arg1)) := by
  refine (dats m 0 c).arrAt_eq_of_covers 1 _ (by decide +kernel) fun t hf y => ?_
  blk_simp
  rw [after0_1]
  refine (block_eq m c t _).trans ?_
  refine Eq.trans ?_ (reference_eq _ _ _).symm
  unfold dotBlock
  refine Finset.sum_congr rfl fun k _ => ?_
  have h := point_rows t
  refine congrArg₂ (fun a b : EReal => a * b) ?_ ?_
  · blk_ext [iblk, V, h]
  · blk_ext [V, h]

end Cert.KernelIdeal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Product
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The kernel leaves its arguments as they were and every semaphore counter at zero. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- So does the reference, which declares no semaphore. -/
theorem frame_reference : Cert.quiescent_ReferenceIdeal := fun m ρ _ =>
  θ_run_mono (Cert.ReferenceIdeal.Value.run m ρ) fun r h =>
    ⟨fun c => (h c).2, sem_eq_zero_of_no_sems (by decide) r.2⟩

/-- From equal arguments the idealized kernel and the reference end with equal arrays over the extended reals: both hold the
    matrix product of the first two arguments. -/
theorem algebraic : Cert.algebraic_KernelIdeal_ReferenceIdeal := by
  intro m ρ m' ρ' _ hagree
  refine ⟨fun c => (Cert.KernelIdeal.Gen.dats m 0 c).arrAt 1 Cert.KernelIdeal.cfg0.N,
    Cert.KernelIdeal.Value.run_blocks m ρ, ?_⟩
  refine θ_run_mono (Cert.ReferenceIdeal.Value.run m' ρ') fun r h c => ⟨(h c).1.trans ?_, (h c).2⟩
  rw [(hagree c).1, (hagree c).2.1]
  exact (Cert.KernelIdeal.Product.array_eq m c).symm

/-- Every claim of the certificate. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
